-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x6 : Shape := ⟨2, ![32768, 6]⟩
abbrev S17 : Shape := ⟨1, ![17]⟩
abbrev S8x6 : Shape := ⟨2, ![8, 6]⟩
abbrev S8 : Shape := ⟨1, ![8]⟩
abbrev S48 : Shape := ⟨1, ![48]⟩
abbrev S56 : Shape := ⟨1, ![56]⟩
abbrev S_ : Shape := ⟨0, ![]⟩
abbrev S64 : Shape := ⟨1, ![64]⟩
abbrev S6x32768 : Shape := ⟨2, ![6, 32768]⟩
abbrev S8x32768 : Shape := ⟨2, ![8, 32768]⟩
abbrev S6x1024 : Shape := ⟨2, ![6, 1024]⟩
abbrev S8x1024 : Shape := ⟨2, ![8, 1024]⟩
abbrev S16 : Shape := ⟨1, ![16]⟩
abbrev S1 : Shape := ⟨1, ![1]⟩
abbrev S1x16 : Shape := ⟨2, ![1, 16]⟩
abbrev S32768x8 : Shape := ⟨2, ![32768, 8]⟩

abbrev nBuf : Table → Nat
  | .hbm => 12
  | .local .scVector .vmem => 3
  | _ => 0

abbrev bufTy : (tb : Table) → Fin (nBuf tb) → BufTy
  | .hbm, ⟨0, _⟩ => ⟨S32768x6, .f32⟩
  | .hbm, ⟨1, _⟩ => ⟨S17, .i32⟩
  | .hbm, ⟨2, _⟩ => ⟨S8x6, .f32⟩
  | .hbm, ⟨3, _⟩ => ⟨S8, .f32⟩
  | .hbm, ⟨4, _⟩ => ⟨S48, .f32⟩
  | .hbm, ⟨5, _⟩ => ⟨S56, .f32⟩
  | .hbm, ⟨6, _⟩ => ⟨S_, .i32⟩
  | .hbm, ⟨7, _⟩ => ⟨S_, .f32⟩
  | .hbm, ⟨8, _⟩ => ⟨S64, .f32⟩
  | .hbm, ⟨9, _⟩ => ⟨S6x32768, .f32⟩
  | .hbm, ⟨10, _⟩ => ⟨S8x32768, .f32⟩
  | .hbm, ⟨11, _⟩ => ⟨S32768x8, .f32⟩
  | .local .scVector .vmem, ⟨0, _⟩ => ⟨S6x1024, .f32⟩
  | .local .scVector .vmem, ⟨1, _⟩ => ⟨S8x1024, .f32⟩
  | .local .scVector .vmem, ⟨2, _⟩ => ⟨S64, .f32⟩
  | _, _ => ⟨S32768x6, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v3_scv : Ref sig .scVector := ⟨.hbm, 9, rfl⟩
abbrev main_v2_scv : Ref sig .scVector := ⟨.hbm, 8, rfl⟩
abbrev main_v4_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_100_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
@[reducible] def k0_t1_loop : Scf.Loop 32 :=
  let c0_i32_97 : BitVec 32 := 0#32
  let c16_i32 : BitVec 32 := 16#32
  let v344 : BitVec 32 := Scalar.addi c0_i32_97 c16_i32
  let c1_i32_98 : BitVec 32 := 1#32
  ⟨c0_i32_97, v344, c1_i32_98⟩
def k0_off2 (k0_t1 : Fin k0_t1_loop.trips) (c0_i32_100 : BitVec 32) : Fin 2 → Nat :=
  let c0_i32_101 : BitVec 32 := 0#32
  let v347 : Index := Scalar.indexCast c0_i32_101
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v346 : BitVec 32 := Scalar.addi v345 c0_i32_100
  let v348 : Index := Scalar.indexCast v346
  ![0, v348.toNat]
def k0_off3 (k0_t1 : Fin k0_t1_loop.trips) (c0_i32_102 : BitVec 32) : Fin 2 → Nat :=
  let c1_i32_103 : BitVec 32 := 1#32
  let v351 : Index := Scalar.indexCast c1_i32_103
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v350 : BitVec 32 := Scalar.addi v345 c0_i32_102
  let v352 : Index := Scalar.indexCast v350
  ![1, v352.toNat]
def k0_off4 (k0_t1 : Fin k0_t1_loop.trips) (c0_i32_104 : BitVec 32) : Fin 2 → Nat :=
  let c2_i32_105 : BitVec 32 := 2#32
  let v355 : Index := Scalar.indexCast c2_i32_105
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v354 : BitVec 32 := Scalar.addi v345 c0_i32_104
  let v356 : Index := Scalar.indexCast v354
  ![2, v356.toNat]
def k0_off5 (k0_t1 : Fin k0_t1_loop.trips) (c0_i32_106 : BitVec 32) : Fin 2 → Nat :=
  let c3_i32_107 : BitVec 32 := 3#32
  let v359 : Index := Scalar.indexCast c3_i32_107
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v358 : BitVec 32 := Scalar.addi v345 c0_i32_106
  let v360 : Index := Scalar.indexCast v358
  ![3, v360.toNat]
def k0_off6 (k0_t1 : Fin k0_t1_loop.trips) (c0_i32_108 : BitVec 32) : Fin 2 → Nat :=
  let c4_i32_109 : BitVec 32 := 4#32
  let v363 : Index := Scalar.indexCast c4_i32_109
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v362 : BitVec 32 := Scalar.addi v345 c0_i32_108
  let v364 : Index := Scalar.indexCast v362
  ![4, v364.toNat]
def k0_off7 (k0_t1 : Fin k0_t1_loop.trips) (c0_i32_110 : BitVec 32) : Fin 2 → Nat :=
  let c5_i32_111 : BitVec 32 := 5#32
  let v367 : Index := Scalar.indexCast c5_i32_111
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v366 : BitVec 32 := Scalar.addi v345 c0_i32_110
  let v368 : Index := Scalar.indexCast v366
  ![5, v368.toNat]
def k0_off8 (k0_t1 : Fin k0_t1_loop.trips) (c0_i32_146 : BitVec 32) : Fin 2 → Nat :=
  let c0_i32_147 : BitVec 32 := 0#32
  let v462 : Index := Scalar.indexCast c0_i32_147
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v461 : BitVec 32 := Scalar.addi v345 c0_i32_146
  let v463 : Index := Scalar.indexCast v461
  ![0, v463.toNat]
def k0_off9 (k0_t1 : Fin k0_t1_loop.trips) (c0_i32_154 : BitVec 32) : Fin 2 → Nat :=
  let c1_i32_155 : BitVec 32 := 1#32
  let v554 : Index := Scalar.indexCast c1_i32_155
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v553 : BitVec 32 := Scalar.addi v345 c0_i32_154
  let v555 : Index := Scalar.indexCast v553
  ![1, v555.toNat]
def k0_off10 (k0_t1 : Fin k0_t1_loop.trips) (c0_i32_162 : BitVec 32) : Fin 2 → Nat :=
  let c2_i32_163 : BitVec 32 := 2#32
  let v646 : Index := Scalar.indexCast c2_i32_163
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v645 : BitVec 32 := Scalar.addi v345 c0_i32_162
  let v647 : Index := Scalar.indexCast v645
  ![2, v647.toNat]
def k0_off11 (k0_t1 : Fin k0_t1_loop.trips) (c0_i32_170 : BitVec 32) : Fin 2 → Nat :=
  let c3_i32_171 : BitVec 32 := 3#32
  let v738 : Index := Scalar.indexCast c3_i32_171
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v737 : BitVec 32 := Scalar.addi v345 c0_i32_170
  let v739 : Index := Scalar.indexCast v737
  ![3, v739.toNat]
def k0_off12 (k0_t1 : Fin k0_t1_loop.trips) (c0_i32_178 : BitVec 32) : Fin 2 → Nat :=
  let c4_i32_179 : BitVec 32 := 4#32
  let v830 : Index := Scalar.indexCast c4_i32_179
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v829 : BitVec 32 := Scalar.addi v345 c0_i32_178
  let v831 : Index := Scalar.indexCast v829
  ![4, v831.toNat]
def k0_off13 (k0_t1 : Fin k0_t1_loop.trips) (c0_i32_186 : BitVec 32) : Fin 2 → Nat :=
  let c5_i32_187 : BitVec 32 := 5#32
  let v922 : Index := Scalar.indexCast c5_i32_187
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v921 : BitVec 32 := Scalar.addi v345 c0_i32_186
  let v923 : Index := Scalar.indexCast v921
  ![5, v923.toNat]
def k0_off14 (k0_t1 : Fin k0_t1_loop.trips) (c0_i32_194 : BitVec 32) : Fin 2 → Nat :=
  let c6_i32_195 : BitVec 32 := 6#32
  let v1014 : Index := Scalar.indexCast c6_i32_195
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v1013 : BitVec 32 := Scalar.addi v345 c0_i32_194
  let v1015 : Index := Scalar.indexCast v1013
  ![6, v1015.toNat]
def k0_off15 (k0_t1 : Fin k0_t1_loop.trips) (c0_i32_202 : BitVec 32) : Fin 2 → Nat :=
  let c7_i32_203 : BitVec 32 := 7#32
  let v1106 : Index := Scalar.indexCast c7_i32_203
  let c0_i32_97 : BitVec 32 := 0#32
  let c1_i32_98 : BitVec 32 := 1#32
  let arg8 : BitVec 32 := Scf.iv c0_i32_97 c1_i32_98 k0_t1
  let c64_i32 : BitVec 32 := 64#32
  let v345 : BitVec 32 := Scalar.muli arg8 c64_i32
  let v1105 : BitVec 32 := Scalar.addi v345 c0_i32_202
  let v1107 : Index := Scalar.indexCast v1105
  ![7, v1107.toNat]
def k0_off16 (i : grid0.Coords) : Fin 2 → Nat :=
  let c0_i32_100_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x6 : Shape := ⟨2, ![32768, 6]⟩
abbrev S17 : Shape := ⟨1, ![17]⟩
abbrev S8x6 : Shape := ⟨2, ![8, 6]⟩
abbrev S8 : Shape := ⟨1, ![8]⟩
abbrev S6x8 : Shape := ⟨2, ![6, 8]⟩
abbrev S32768x8 : Shape := ⟨2, ![32768, 8]⟩
abbrev S1x8 : Shape := ⟨2, ![1, 8]⟩

abbrev nBuf : Space → Nat
  | .hbm => 9
  | .vmem => 0
  | .smem => 0
  | _ => 0

abbrev bufTy : (tb : Table) → Fin (tcTables nBuf tb) → BufTy
  | .hbm, ⟨0, _⟩ => ⟨S32768x6, .f32⟩
  | .hbm, ⟨1, _⟩ => ⟨S17, .i32⟩
  | .hbm, ⟨2, _⟩ => ⟨S8x6, .f32⟩
  | .hbm, ⟨3, _⟩ => ⟨S8, .f32⟩
  | .hbm, ⟨4, _⟩ => ⟨S6x8, .f32⟩
  | .hbm, ⟨5, _⟩ => ⟨S32768x8, .f32⟩
  | .hbm, ⟨6, _⟩ => ⟨S1x8, .f32⟩
  | .hbm, ⟨7, _⟩ => ⟨S32768x8, .f32⟩
  | .hbm, ⟨8, _⟩ => ⟨S32768x8, .f32⟩
  | _, _ => ⟨S32768x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Linear.Setup.lean ====
/-
  The launch of the kernel as the SparseCore launch theorem sees it: the labels, the definitions, the facts about the
  signature that the theorem asks for, the resource algebra of the proof, and the buffers by name.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof.Linear

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the signature: the launch's semaphores are distinct and unscoped, and no task has a
    buffer shared between the tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The buffers -/

/-- The tile's coordinates: its SparseCore and its number there. -/
abbrev cV (L : grid0.Coords) : Fin τ.nSC := (L 0).castLE hcore0
abbrev jV (L : grid0.Coords) : Fin τ.nSub := (L 1).castLE hsub0

end Cert.Proof.Linear

end
-- ==== Proof.Linear.Math.lean ====
/-
  What one tile computes, as plain functions: one output of the linear map as the kernel adds it up (`lin`), the block
  of outputs from a block of tokens (`tileOut`), the stores of one trip of the loop (`pieces`), and the theorem that
  one trip extends the part of the output scratch that holds its final values by 64 columns (`agree_step`).
-/
module

public import proofs.«01_k».proof.Proof.Linear.Setup
public import Idealize.ShloMosaic.Lib.Pipeline.Value
public import Idealize.ShloMosaic.Lib.VecWindow

@[expose] public section

noncomputable section

namespace Cert.Proof.Linear

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "vtV" => (Memref.whole Cert.KernelIdeal.main_v3_scv : Memref Cert.KernelIdeal.sig Kind.scVector Space.hbm Cert.KernelIdeal.S6x32768 EltTy.f32)
local notation "wbV" => (Memref.whole Cert.KernelIdeal.main_v2_scv : Memref Cert.KernelIdeal.sig Kind.scVector Space.hbm Cert.KernelIdeal.S64 EltTy.f32)
local notation "otV" => (Memref.whole Cert.KernelIdeal.main_v4_scv : Memref Cert.KernelIdeal.sig Kind.scVector Space.hbm Cert.KernelIdeal.S8x32768 EltTy.f32)
local notation "vS" => (Memref.whole Cert.KernelIdeal.cc0_scratch0 : Memref Cert.KernelIdeal.sig Kind.scVector Space.vmem Cert.KernelIdeal.S6x1024 EltTy.f32)
local notation "oS" => (Memref.whole Cert.KernelIdeal.cc0_scratch1 : Memref Cert.KernelIdeal.sig Kind.scVector Space.vmem Cert.KernelIdeal.S8x1024 EltTy.f32)
local notation "wS" => (Memref.whole Cert.KernelIdeal.cc0_scratch2 : Memref Cert.KernelIdeal.sig Kind.scVector Space.vmem Cert.KernelIdeal.S64 EltTy.f32)

/-! ## One output -/

/-- One output of the linear map, in the kernel's order: the first product, the bias, then the other five products. -/
def lin (x w : Fin 6 → F .f32) (b : F .f32) : F .f32 :=
  FloatOps.addf (FloatOps.addf (FloatOps.addf (FloatOps.addf (FloatOps.addf (FloatOps.addf
    (FloatOps.mulf (x 0) (w 0)) b) (FloatOps.mulf (x 1) (w 1))) (FloatOps.mulf (x 2) (w 2)))
    (FloatOps.mulf (x 3) (w 3))) (FloatOps.mulf (x 4) (w 4))) (FloatOps.mulf (x 5) (w 5))

/-- `lin` on sixteen tokens at once. -/
def linV (x : Fin 6 → FVec F S16 .f32) (w : Fin 6 → F .f32) (b : F .f32) : FVec F S16 .f32 :=
  fun j => lin (fun i => x i j) w b

/-- The outputs of a tile's 1024 tokens, token by token the values of `lin`. -/
def tileOut (fv : S6x1024.Idx → F .f32) (W : Fin 8 → Fin 6 → F .f32) (B : Fin 8 → F .f32) : S8x1024.Idx → F .f32 :=
  fun y => lin (fun i => fv (Fin.cons i (Fin.cons (y 1) finZeroElim))) (W (y 0)) (B (y 0))

/-! ## The windows of one trip -/

/-- The offsets of the load of row `i` of the tokens, and of the store of output row `o`. -/
def inOff (k : Fin k0_t1_loop.trips) (c : BitVec 32) : Fin 6 → Fin 2 → ℕ
  | 0 => k0_off2 k c | 1 => k0_off3 k c | 2 => k0_off4 k c | 3 => k0_off5 k c | 4 => k0_off6 k c | 5 => k0_off7 k c
@[inherit_doc inOff] def outOff (k : Fin k0_t1_loop.trips) (c : BitVec 32) : Fin 8 → Fin 2 → ℕ
  | 0 => k0_off8 k c | 1 => k0_off9 k c | 2 => k0_off10 k c | 3 => k0_off11 k c
  | 4 => k0_off12 k c | 5 => k0_off13 k c | 6 => k0_off14 k c | 7 => k0_off15 k c

theorem inOff_eq (k : Fin k0_t1_loop.trips) (r : Fin 4) :
    ∀ i : Fin 6, inOff k (BitVec.ofNat 32 (16 * r.val)) i = ![i.val, 64 * k.val + 16 * r.val]
  | 0 => k0_off2_eq k r | 1 => k0_off3_eq k r | 2 => k0_off4_eq k r | 3 => k0_off5_eq k r | 4 => k0_off6_eq k r | 5 => k0_off7_eq k r
theorem outOff_eq (k : Fin k0_t1_loop.trips) (r : Fin 4) :
    ∀ o : Fin 8, outOff k (BitVec.ofNat 32 (16 * r.val)) o = ![o.val, 64 * k.val + 16 * r.val]
  | 0 => k0_off8_eq k r | 1 => k0_off9_eq k r | 2 => k0_off10_eq k r | 3 => k0_off11_eq k r
  | 4 => k0_off12_eq k r | 5 => k0_off13_eq k r | 6 => k0_off14_eq k r | 7 => k0_off15_eq k r
theorem inOff_inb (k : Fin k0_t1_loop.trips) (r : Fin 4) :
    ∀ (i : Fin 6) a, inOff k (BitVec.ofNat 32 (16 * r.val)) i a + S1x16.size a ≤ S6x1024.size a
  | 0 => k0_off2_inb k r | 1 => k0_off3_inb k r | 2 => k0_off4_inb k r | 3 => k0_off5_inb k r | 4 => k0_off6_inb k r | 5 => k0_off7_inb k r
theorem outOff_inb (k : Fin k0_t1_loop.trips) (r : Fin 4) :
    ∀ (o : Fin 8) a, outOff k (BitVec.ofNat 32 (16 * r.val)) o a + S1x16.size a ≤ S8x1024.size a
  | 0 => k0_off8_inb k r | 1 => k0_off9_inb k r | 2 => k0_off10_inb k r | 3 => k0_off11_inb k r
  | 4 => k0_off12_inb k r | 5 => k0_off13_inb k r | 6 => k0_off14_inb k r | 7 => k0_off15_inb k r

/-- The sixteen values of feature `i` that trip `k` loads for its `r`-th group of tokens. -/
def vIn (k : Fin k0_t1_loop.trips) (r : Fin 4) (fv : (vS).view.ty.Contents (Elt F)) (i : Fin 6) : FVec F S16 .f32 :=
  shapeCast S16 ((vS).view.readAt (Elt F) (Rect.unit (s := S6x1024) (inOff k (BitVec.ofNat 32 (16 * r.val)) i) S1x16.size (inOff_inb k r i)).toLoadRect fv)
    shapeCasts_S1x16_S16

/-- Trip `k`'s store of output `o` for its `r`-th group of tokens: where, and what. -/
def piece (k : Fin k0_t1_loop.trips) (fv : (vS).view.ty.Contents (Elt F)) (W : Fin 8 → Fin 6 → F .f32) (B : Fin 8 → F .f32)
    (o : Fin 8) (r : Fin 4) : View.Piece (Elt F) S8x1024 .f32 :=
  ⟨Rect.unit (s := S8x1024) (outOff k (BitVec.ofNat 32 (16 * r.val)) o) S1x16.size (outOff_inb k r o),
    shapeCast S1x16 (linV (vIn k r fv) (W o) (B o)) shapeCasts_S16_S1x16⟩

/-- Trip `k`'s stores, the last first. -/
def pieces (k : Fin k0_t1_loop.trips) (fv : (vS).view.ty.Contents (Elt F)) (W : Fin 8 → Fin 6 → F .f32) (B : Fin 8 → F .f32) :
    List (View.Piece (Elt F) S8x1024 .f32) :=
  [7, 6, 5, 4, 3, 2, 1, 0].flatMap fun o => [3, 2, 1, 0].map fun r => piece k fv W B o r

theorem mem_pieces {k : Fin k0_t1_loop.trips} {fv : (vS).view.ty.Contents (Elt F)} {W : Fin 8 → Fin 6 → F .f32} {B : Fin 8 → F .f32}
    {p : View.Piece (Elt F) S8x1024 .f32} (hp : p ∈ pieces k fv W B) : ∃ o r, p = piece k fv W B o r := by
  obtain ⟨o, -, h⟩ := List.mem_flatMap.mp hp
  obtain ⟨r, -, h⟩ := List.mem_map.mp h
  exact ⟨o, r, h.symm⟩

theorem piece_mem (k : Fin k0_t1_loop.trips) (fv : (vS).view.ty.Contents (Elt F)) (W : Fin 8 → Fin 6 → F .f32) (B : Fin 8 → F .f32)
    (o : Fin 8) (r : Fin 4) : piece k fv W B o r ∈ pieces k fv W B :=
  List.mem_flatMap.mpr ⟨o, by fin_cases o <;> decide, List.mem_map.mpr ⟨r, by fin_cases r <;> decide, rfl⟩⟩

/-! ## What a trip loads and stores -/

/-- The value of feature `i` that lane `j` of group `r` loads is that of column `64 * k + 16 * r + j`. -/
theorem vIn_apply (k : Fin k0_t1_loop.trips) (r : Fin 4) (fv : (vS).view.ty.Contents (Elt F)) (i : Fin 6) (j : S16.Idx)
    (c : Fin 1024) (hc : c.val = 64 * k.val + 16 * r.val + (j 0).val) :
    vIn k r fv i j = fv (Fin.cons i (Fin.cons c finZeroElim)) := by
  unfold vIn
  refine (shapeCast_dropUnit_apply _ _ _ j).trans ?_
  refine congrArg fv (Rect.emb_eq_of_coords _ _ _ fun a => ?_)
  have h := congrFun (inOff_eq k r i) a
  fin_cases a
  · show i.val = inOff k _ i 0 + 1 * 0
    exact h.symm
  · show c.val = inOff k _ i 1 + 1 * (j 0).val
    rw [hc, Nat.one_mul]
    exact congrArg (· + (j 0).val) h.symm

/-- What a store puts at a place is what `tileOut` has there. -/
theorem piece_value (k : Fin k0_t1_loop.trips) (fv : (vS).view.ty.Contents (Elt F)) (W : Fin 8 → Fin 6 → F .f32) (B : Fin 8 → F .f32)
    (o : Fin 8) (r : Fin 4) (x : (piece k fv W B o r).1.shape.Idx) :
    (piece k fv W B o r).2 x = tileOut fv W B ((piece k fv W B o r).1.emb x) := by
  have h := outOff_eq k r o
  have h0 : ((piece k fv W B o r).1.emb x 0).val = o.val := by
    have : (x 0).val = 0 := by have := (x 0).isLt; change _ < 1 at this; omega
    show outOff k _ o 0 + 1 * (x 0).val = _
    rw [h, this]; rfl
  have h1 : ((piece k fv W B o r).1.emb x 1).val = 64 * k.val + 16 * r.val + (x 1).val := by
    show outOff k _ o 1 + 1 * (x 1).val = _
    rw [h, Nat.one_mul]; rfl
  refine (shapeCast_addUnit_apply ![16] (linV (vIn k r fv) (W o) (B o)) shapeCasts_S16_S1x16 x).trans ?_
  have ho : (piece k fv W B o r).1.emb x 0 = o := Fin.ext h0
  unfold tileOut linV
  rw [ho]
  exact congrArg (fun v => lin v (W o) (B o)) (funext fun i => vIn_apply k r fv i _ _ h1)

/-- The output scratch holds `tileOut`'s values in every column before `64 * k`. -/
def Agree (k : ℕ) (fv : (vS).view.ty.Contents (Elt F)) (W : Fin 8 → Fin 6 → F .f32) (B : Fin 8 → F .f32) (f : (oS).view.ty.Contents (Elt F)) : Prop :=
  ∀ y : S8x1024.Idx, (y 1).val < 64 * k → f y = tileOut fv W B y

/-- One trip's stores extend the finished columns by 64. -/
theorem agree_step (k : Fin k0_t1_loop.trips) (fv : (vS).view.ty.Contents (Elt F)) (W : Fin 8 → Fin 6 → F .f32) (B : Fin 8 → F .f32)
    (f : (oS).view.ty.Contents (Elt F)) (h : Agree k.val fv W B f) :
    Agree (k.val + 1) fv W B ((oS).view.writes (Elt F) f (pieces k fv W B)) := by
  intro y hy
  refine (congrFun (View.read_whole cc0_scratch1 _) y).symm.trans ?_
  by_cases hc : ∃ p ∈ pieces k fv W B, y ∈ p.1.set
  · refine View.read_writes_apply_of_pieces _ f (tileOut fv W B) _ (fun p hp x => ?_) y hc
    obtain ⟨o, r, rfl⟩ := mem_pieces hp
    exact piece_value k fv W B o r x
  · refine (View.read_writes_apply_of_forall_not_mem _ f y _ fun p hp hm => hc ⟨p, hp, hm⟩).trans ?_
    refine h y (Nat.lt_of_not_le fun hle => hc ?_)
    have hr : ((y 1).val - 64 * k.val) / 16 < 4 := by omega
    refine ⟨_, piece_mem k fv W B (y 0) ⟨_, hr⟩, (Rect.mem_set_unit (inb := outOff_inb k ⟨_, hr⟩ (y 0))).mpr fun a => ?_⟩
    have e := congrFun (outOff_eq k ⟨_, hr⟩ (y 0)) a
    fin_cases a
    · have e : outOff k _ (y 0) 0 = (y 0).val := e
      exact ⟨e.le, e ▸ Nat.lt_succ_self _⟩
    · have e : outOff k _ (y 0) 1 = 64 * k.val + 16 * (((y 1).val - 64 * k.val) / 16) := e
      have h1 : 64 * k.val + 16 * (((y 1).val - 64 * k.val) / 16) ≤ (y 1).val := by omega
      have h2 : (y 1).val < 64 * k.val + 16 * (((y 1).val - 64 * k.val) / 16) + 16 := by omega
      exact ⟨e.le.trans h1, lt_of_lt_of_eq h2 (congrArg (· + 16) e).symm⟩

/-! ## The weights -/

/-- The index of a lane, and of a word of the weights. -/
abbrev lane (j : Fin 16) : S16.Idx := Fin.cons j finZeroElim
@[inherit_doc lane] abbrev word (n : Fin 64) : S64.Idx := Fin.cons n finZeroElim

/-- The lane `j` of sixteen, as the kernel takes it out: the other lanes masked to zero, the lane then extracted. -/
def pick (v : FVec F S16 .f32) (j : Fin 16) : F .f32 :=
  extractAt ![0] (extractStridedSlice S1 ![j.val]
    (select (cmpi .eq (iota .scVector S16 32 [0] iota_S16_d0_w32_scVector) (broadcast S16 (BitVec.ofNat 32 j.val))) v
      (broadcast S16 (Scalar.ofBits .f32 0x00000000#32)))
    ⟨rfl, fun a => by
      have ha : a = 0 := Subsingleton.elim (α := Fin 1) a 0
      subst ha; show j.val + 1 ≤ 16; omega⟩) inpos_S1_p0

/-- It is that lane. -/
theorem pick_eq (v : FVec F S16 .f32) (j : Fin 16) : pick v j = v (lane j) := by
  have e : ∀ x : S16.Idx, x = (lane j) → select (cmpi .eq (iota .scVector S16 32 [0] iota_S16_d0_w32_scVector) (broadcast S16 (BitVec.ofNat 32 j.val))) v
      (broadcast S16 (Scalar.ofBits .f32 0x00000000#32)) x = v (lane j) := by
    rintro x rfl
    have h : cmpi .eq (iota .scVector S16 32 [0] iota_S16_d0_w32_scVector) (broadcast S16 (BitVec.ofNat 32 j.val)) (lane j) = 1 := by
      unfold cmpi
      rw [iota_single_apply]
      show BitVec.ofBool (BitVec.ofNat 32 j.val == BitVec.ofNat 32 j.val) = 1
      simp
    unfold select
    rw [h]; rfl
  refine e _ (funext fun a => ?_)
  have ha : a = 0 := Subsingleton.elim (α := Fin 1) a 0
  subst ha; exact Fin.ext rfl

/-- The `q`-th sixteen words of the weights' scratch. -/
def wVec (fw : (wS).view.ty.Contents (Elt F)) (q : Fin 4) : FVec F S16 .f32 :=
  (wS).view.readAt (Elt F) (Rect.unit (s := S64) ![16 * q.val] S16.size (fun a => by
    have ha : a = 0 := Subsingleton.elim (α := Fin 1) a 0
    subst ha; show 16 * q.val + 16 ≤ 64; omega)).toLoadRect fw

/-- Weight `i` of output `o`, and output `o`'s bias, as the kernel takes them out of the scratch. -/
def wAt (fw : (wS).view.ty.Contents (Elt F)) (o : Fin 8) (i : Fin 6) : F .f32 :=
  pick (wVec fw ⟨(6 * o.val + i.val) / 16, by omega⟩) ⟨(6 * o.val + i.val) % 16, by omega⟩
@[inherit_doc wAt] def bAt (fw : (wS).view.ty.Contents (Elt F)) (o : Fin 8) : F .f32 :=
  pick (wVec fw 3) ⟨o.val, by omega⟩

theorem wVec_apply (fw : (wS).view.ty.Contents (Elt F)) (q : Fin 4) (j : Fin 16) (n : Fin 64) (hn : n.val = 16 * q.val + j.val) :
    wVec fw q (lane j) = fw (word n) := by
  refine congrArg fw (Rect.emb_eq_of_coords _ _ _ fun a => ?_)
  have ha : a = 0 := Subsingleton.elim (α := Fin 1) a 0
  subst ha
  show n.val = 16 * q.val + 1 * j.val
  omega

/-- They are words `6 * o + i` and `48 + o`. -/
theorem wAt_eq (fw : (wS).view.ty.Contents (Elt F)) (o : Fin 8) (i : Fin 6) : wAt fw o i = fw (word ⟨6 * o.val + i.val, by omega⟩) :=
  (pick_eq _ _).trans (wVec_apply fw _ _ _ (Nat.div_add_mod (6 * o.val + i.val) 16).symm)
@[inherit_doc wAt_eq] theorem bAt_eq (fw : (wS).view.ty.Contents (Elt F)) (o : Fin 8) : bAt fw o = fw (word ⟨48 + o.val, by omega⟩) :=
  (pick_eq _ _).trans (wVec_apply fw 3 ⟨o.val, by omega⟩ ⟨48 + o.val, by omega⟩ rfl)

/-! ## All the outputs -/

/-- The whole output, output-major: from the tokens feature by feature (`fv`) and the 64 words of weights and biases
    (`fw`), entry `(o, t)` is the linear map's output `o` of token `t`. -/
def outT (fv : S6x32768.Idx → F .f32) (fw : S64.Idx → F .f32) : S8x32768.Idx → F .f32 :=
  fun y => lin (fun i => fv (Fin.cons i (Fin.cons (y 1) finZeroElim)))
    (fun i => fw (word ⟨6 * (y 0).val + i.val, by have : (y 0).val < 8 := (y 0).isLt; omega⟩))
    (fw (word ⟨48 + (y 0).val, by have : (y 0).val < 8 := (y 0).isLt; omega⟩))

end Cert.Proof.Linear

end
-- ==== Proof.Linear.Trip.lean ====
/-
  One trip of a tile's loop, run once at a symbolic tile and a symbolic trip: the loads of the tokens and the stores
  of the outputs, over any contents of the two scratch buffers.
-/
module

public import proofs.«01_k».proof.Proof.Linear.Math

@[expose] public section

noncomputable section

namespace Cert.Proof.Linear

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "vtV" => (Memref.whole Cert.KernelIdeal.main_v3_scv : Memref Cert.KernelIdeal.sig Kind.scVector Space.hbm Cert.KernelIdeal.S6x32768 EltTy.f32)
local notation "wbV" => (Memref.whole Cert.KernelIdeal.main_v2_scv : Memref Cert.KernelIdeal.sig Kind.scVector Space.hbm Cert.KernelIdeal.S64 EltTy.f32)
local notation "otV" => (Memref.whole Cert.KernelIdeal.main_v4_scv : Memref Cert.KernelIdeal.sig Kind.scVector Space.hbm Cert.KernelIdeal.S8x32768 EltTy.f32)
local notation "vS" => (Memref.whole Cert.KernelIdeal.cc0_scratch0 : Memref Cert.KernelIdeal.sig Kind.scVector Space.vmem Cert.KernelIdeal.S6x1024 EltTy.f32)
local notation "oS" => (Memref.whole Cert.KernelIdeal.cc0_scratch1 : Memref Cert.KernelIdeal.sig Kind.scVector Space.vmem Cert.KernelIdeal.S8x1024 EltTy.f32)
local notation "wS" => (Memref.whole Cert.KernelIdeal.cc0_scratch2 : Memref Cert.KernelIdeal.sig Kind.scVector Space.vmem Cert.KernelIdeal.S64 EltTy.f32)

set_option maxHeartbeats 8000000 in
/-- Trip `k`: from the tokens' scratch at `fv` and the outputs' at `fo`, the first as it was and the second with the
    trip's stores made. -/
theorem trip (d : Dev nD) (L : grid0.Coords) (k : Fin k0_t1_loop.trips) (W : Fin 8 → Fin 6 → F .f32) (B : Fin 8 → F .f32)
    (fv : Buf (Elt F) ((V d (cV L) (jV L)).loc cc0_scratch0)) (fo : Buf (Elt F) ((V d (cV L) (jV L)).loc cc0_scratch1)) :
    iprop(((vS).view.loc (V d (cV L) (jV L)) ↦{fullShare} fv) ∗ ((oS).view.loc (V d (cV L) (jV L)) ↦{fullShare} fo))
      ⊢ (wp frame (wpE (defs₀ (F := F)) 𝒱₀ (V d (cV L) (jV L)) none) Set.univ
          (k0_t1_body L vtV (Memref.isWhole_whole _) wbV (Memref.isWhole_whole _) otV (Memref.isWhole_whole _)
            vS (Memref.isWhole_whole _) oS (Memref.isWhole_whole _) wS (Memref.isWhole_whole _) cc0_scoped0 cc0_scoped1 cc0_scoped2
            (W 0 0) (W 0 1) (W 0 2) (W 0 3) (W 0 4) (W 0 5)
            (W 1 0) (W 1 1) (W 1 2) (W 1 3) (W 1 4) (W 1 5)
            (W 2 0) (W 2 1) (W 2 2) (W 2 3) (W 2 4) (W 2 5)
            (W 3 0) (W 3 1) (W 3 2) (W 3 3) (W 3 4) (W 3 5)
            (W 4 0) (W 4 1) (W 4 2) (W 4 3) (W 4 4) (W 4 5)
            (W 5 0) (W 5 1) (W 5 2) (W 5 3) (W 5 4) (W 5 5)
            (W 6 0) (W 6 1) (W 6 2) (W 6 3) (W 6 4) (W 6 5)
            (W 7 0) (W 7 1) (W 7 2) (W 7 3) (W 7 4) (W 7 5)
            (B 0) (B 1) (B 2) (B 3) (B 4) (B 5) (B 6) (B 7) 0#32 k ())
          fun _ => iprop(((vS).view.loc (V d (cV L) (jV L)) ↦{fullShare} fv)
            ∗ ((oS).view.loc (V d (cV L) (jV L)) ↦{fullShare} (oS).view.writes (Elt F) fo (pieces k fv W B))) : sProp 𝕄) := by
  unfold k0_t1_body
  iintro ⟨Hv, Ho⟩
  sl_exec
  sl_step
  isplitl [Hv]; · iexact Hv
  iexact Ho

end Cert.Proof.Linear

end
-- ==== Proof.Linear.Tile.lean ====
/-
  One tile's task, run once at a symbolic SparseCore and a symbolic tile: it copies the weights and its 1024 tokens in,
  takes the 56 scalars out of the weights, computes its tokens' outputs in sixteen trips (`trip`), and copies them out
  to its block of columns, which then holds `outT`'s values.
-/
module

public import proofs.«01_k».proof.Proof.Linear.Trip

@[expose] public section

noncomputable section

namespace Cert.Proof.Linear

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "vtV" => (Memref.whole Cert.KernelIdeal.main_v3_scv : Memref Cert.KernelIdeal.sig Kind.scVector Space.hbm Cert.KernelIdeal.S6x32768 EltTy.f32)
local notation "wbV" => (Memref.whole Cert.KernelIdeal.main_v2_scv : Memref Cert.KernelIdeal.sig Kind.scVector Space.hbm Cert.KernelIdeal.S64 EltTy.f32)
local notation "otV" => (Memref.whole Cert.KernelIdeal.main_v4_scv : Memref Cert.KernelIdeal.sig Kind.scVector Space.hbm Cert.KernelIdeal.S8x32768 EltTy.f32)
local notation "vS" => (Memref.whole Cert.KernelIdeal.cc0_scratch0 : Memref Cert.KernelIdeal.sig Kind.scVector Space.vmem Cert.KernelIdeal.S6x1024 EltTy.f32)
local notation "oS" => (Memref.whole Cert.KernelIdeal.cc0_scratch1 : Memref Cert.KernelIdeal.sig Kind.scVector Space.vmem Cert.KernelIdeal.S8x1024 EltTy.f32)
local notation "wS" => (Memref.whole Cert.KernelIdeal.cc0_scratch2 : Memref Cert.KernelIdeal.sig Kind.scVector Space.vmem Cert.KernelIdeal.S64 EltTy.f32)

/-! ## The arrays and the blocks -/

/-- The tokens (transposed), the weights and the output (transposed) in HBM. -/
abbrev vLoc (d : Dev nD) : Loc nD τ sig := (SparseCore.T d).loc main_v3
@[inherit_doc vLoc] abbrev wLoc (d : Dev nD) : Loc nD τ sig := (SparseCore.T d).loc main_v2
@[inherit_doc vLoc] abbrev oLoc (d : Dev nD) : Loc nD τ sig := (SparseCore.T d).loc main_v4

/-- The columns of the output that tile `s` of SparseCore `c` computes: 1024 of them from `2048 * s + 1024 * c`. -/
def oBlk (c : Fin 2) (s : Fin 16) : Finset S8x32768.Idx := Finset.univ.filter fun y => (y 1).val / 1024 = 2 * s.val + c.val

/-- The share of the tokens and the weights that tile `s` of SparseCore `c` reads. -/
abbrev rq (c : Fin 2) (s : Fin 16) : PosShare TreeShare := ShareLeaves.leaf 4 (ShareLeaves.leaf 1 fullShare c) s

section Tile

variable (d : Dev nD) (L : grid0.Coords)

/-- The tile's coordinates as numbers below 2 and 16. -/
abbrev cL (L : grid0.Coords) : Fin 2 := L 0
@[inherit_doc cL] abbrev sL (L : grid0.Coords) : Fin 16 := L 1

/-- The tile's block of the output as the program slices it. -/
abbrev oRect (L : grid0.Coords) : Rect S8x32768 := Rect.unit (s := S8x32768) (k0_off16 L) S8x1024.size (k0_off16_inb L)
abbrev oSl (L : grid0.Coords) : Memref sig .scVector .hbm S8x1024 .f32 := (otV).slice (oRect L) (fun _ => rfl)

theorem set_oSl : (oSl L).view.set = oBlk (cL L) (sL L) := by
  have e : (oSl L).view.set = (oRect L).set := by
    show ((View.whole (main_v4_scv : Ref sig .scVector)).slice (oRect L)).set = _
    rw [View.set_slice]; exact Finset.map_refl
  rw [e]
  ext y
  have hy0 : (y 0).val < 8 := (y 0).isLt
  refine (Rect.mem_set_unit (inb := k0_off16_inb L)).trans ?_
  unfold oBlk
  rw [Finset.mem_filter, k0_off16_eq]
  constructor
  · intro h
    have h1 := h 1
    refine ⟨Finset.mem_univ _, ?_⟩
    have ha : 2048 * (L 1).val + 1024 * (L 0).val ≤ (y 1).val := h1.1
    have hb : (y 1).val < 2048 * (L 1).val + 1024 * (L 0).val + 1024 := h1.2
    show (y 1).val / 1024 = 2 * (L 1).val + (L 0).val
    omega
  · rintro ⟨-, h⟩ a
    have h : (y 1).val / 1024 = 2 * (L 1).val + (L 0).val := h
    fin_cases a
    · exact ⟨Nat.zero_le _, show (y 0).val < 0 + 8 by omega⟩
    · exact ⟨show 2048 * (L 1).val + 1024 * (L 0).val ≤ (y 1).val by omega,
        show (y 1).val < 2048 * (L 1).val + 1024 * (L 0).val + 1024 by omega⟩

theorem pts_oSl (f : Buf (Elt F) (oLoc d)) :
    ((oSl L).view.loc (V d (cV L) (jV L)) ↦[(oSl L).view.set]{fullShare} f : sProp 𝕄) = oLoc d ↦[oBlk (cL L) (sL L)]{fullShare} f := by
  rw [set_oSl]

/-! ## What the tile owns -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)

/-- The tile's own semaphores: the three of its copies, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L))) fun g => semVal g 0) := by
  have h0 : cell0 d (cV L) (jV L) ∈ ownCells (V d (cV L) (jV L)) := mem_ownCells.mpr ⟨rfl, by
    show (SemLoc.dma cc0_scoped0.sem : SemLoc sig).isScoped .scVector = true; decide⟩
  have h1 : cell1 d (cV L) (jV L) ∈ ownCells (V d (cV L) (jV L)) := mem_ownCells.mpr ⟨rfl, by
    show (SemLoc.dma cc0_scoped1.sem : SemLoc sig).isScoped .scVector = true; decide⟩
  have h2 : cell2 d (cV L) (jV L) ∈ ownCells (V d (cV L) (jV L)) := mem_ownCells.mpr ⟨rfl, by
    show (SemLoc.dma cc0_scoped2.sem : SemLoc sig).isScoped .scVector = true; decide⟩
  have n01 : cell1 d (cV L) (jV L) ≠ cell0 d (cV L) (jV L) := by simp [cell0, cell1]; decide
  have n12 : cell2 d (cV L) (jV L) ≠ cell1 d (cV L) (jV L) := by simp [cell1, cell2]; decide
  have n02 : cell2 d (cV L) (jV L) ≠ cell0 d (cV L) (jV L) := by simp [cell0, cell2]; decide
  unfold SparseCore.Cfg.ownSems0
  rw [SparseCore.bigSep_erase' h0, SparseCore.bigSep_erase' (Finset.mem_erase.mpr ⟨n01, h1⟩),
    SparseCore.bigSep_erase' (Finset.mem_erase.mpr ⟨n12, Finset.mem_erase.mpr ⟨n02, h2⟩⟩)]

/-- The tile's own buffers: its three scratches, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun _ h => SparseCore.Cfg.mem_ownRefs_of_owner h
  have ne : ∀ b b' : Ref sig .scVector, b ≠ b' → (Proc.scVector (cV L) (jV L)).devRef b ≠ (Proc.scVector (cV L) (jV L)).devRef b' :=
    fun _ _ h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

/-! ## The task -/

/-- What the task is handed: its shares of the tokens (at `fv`) and of the weights (at `fw`), its block of the output. -/
abbrev tilePts (d : Dev nD) (fv : Buf (Elt F) (vLoc d)) (fw : Buf (Elt F) (wLoc d)) (c : Fin 2) (s : Fin 16) (fo : Buf (Elt F) (oLoc d)) : sProp 𝕄 :=
  iprop((vLoc d ↦{rq c s} fv) ∗ (wLoc d ↦{rq c s} fw) ∗ oLoc d ↦[oBlk c s]{fullShare} fo)

/-- Before trip `k`: the tokens' scratch as fetched, the output's with its first `64 * k` columns done. -/
def inv (gv : Buf (Elt F) ((V d (cV L) (jV L)).loc cc0_scratch0)) (W : Fin 8 → Fin 6 → F .f32) (B : Fin 8 → F .f32) (k : ℕ) (_ : PUnit) : sProp 𝕄 :=
  iprop(((vS).view.loc (V d (cV L) (jV L)) ↦{fullShare} gv)
    ∗ ∃ f, ⌜Agree k gv W B f⌝ ∗ ((oS).view.loc (V d (cV L) (jV L)) ↦{fullShare} f))

/-- One trip takes the invariant from `k` to `k + 1`. -/
theorem trip_inv (k : Fin k0_t1_loop.trips) (W : Fin 8 → Fin 6 → F .f32) (B : Fin 8 → F .f32) (gv : Buf (Elt F) ((V d (cV L) (jV L)).loc cc0_scratch0)) :
    inv d L gv W B k.val ⟨⟩ ⊢ (wp frame (wpE (defs₀ (F := F)) 𝒱₀ (V d (cV L) (jV L)) none) Set.univ
          (k0_t1_body L vtV (Memref.isWhole_whole _) wbV (Memref.isWhole_whole _) otV (Memref.isWhole_whole _)
            vS (Memref.isWhole_whole _) oS (Memref.isWhole_whole _) wS (Memref.isWhole_whole _) cc0_scoped0 cc0_scoped1 cc0_scoped2
            (W 0 0) (W 0 1) (W 0 2) (W 0 3) (W 0 4) (W 0 5)
            (W 1 0) (W 1 1) (W 1 2) (W 1 3) (W 1 4) (W 1 5)
            (W 2 0) (W 2 1) (W 2 2) (W 2 3) (W 2 4) (W 2 5)
            (W 3 0) (W 3 1) (W 3 2) (W 3 3) (W 3 4) (W 3 5)
            (W 4 0) (W 4 1) (W 4 2) (W 4 3) (W 4 4) (W 4 5)
            (W 5 0) (W 5 1) (W 5 2) (W 5 3) (W 5 4) (W 5 5)
            (W 6 0) (W 6 1) (W 6 2) (W 6 3) (W 6 4) (W 6 5)
            (W 7 0) (W 7 1) (W 7 2) (W 7 3) (W 7 4) (W 7 5)
            (B 0) (B 1) (B 2) (B 3) (B 4) (B 5) (B 6) (B 7) 0#32 k ())
          fun x => inv d L gv W B (k.val + 1) x : sProp 𝕄) := by
  unfold inv
  iintro ⟨Hv, %f, %hf, Ho⟩
  ihave H := (trip d L k W B gv f) $$ [Hv Ho]
  · isplitl [Hv] <;> iassumption
  iapply (wp_wand frame (wpE (defs₀ (F := F)) 𝒱₀ (V d (cV L) (jV L)) none) Set.univ) $$ H
  iintro %_ ⟨Hv, Ho⟩
  isplitl [Hv]; · iexact Hv
  iexists _; isplitr
  swap; · iexact Ho
  ipureintro; exact agree_step k gv W B f hf

/-- The tile's block of the tokens as the program slices it, read off the whole. -/
abbrev vSl (L : grid0.Coords) : Memref sig .scVector .hbm S6x1024 .f32 :=
  (vtV).slice (Rect.unit (s := S6x32768) (k0_off1 L) S6x1024.size (k0_off1_inb L)) (fun _ => rfl)

/-- With the tokens and the weights as fetched, an output scratch that is done holds the tile's block of `outT`. -/
theorem block_value (fv : Buf (Elt F) (vLoc d)) (fw : Buf (Elt F) (wLoc d)) (f : (oS).view.ty.Contents (Elt F))
    (hf : Agree 16 ((vSl L).view.read (Elt F) fv) (wAt fw) (bAt fw) f) (x : S8x1024.Idx) : f x = outT fv fw ((oRect L).emb x) := by
  have hx : (x 1).val < 1024 := (x 1).isLt
  have h0 : (oRect L).emb x 0 = x 0 := Fin.ext (by
    show k0_off16 L 0 + 1 * (x 0).val = (x 0).val
    rw [k0_off16_eq, Nat.one_mul]; exact Nat.zero_add _)
  refine (hf x (by omega)).trans ?_
  have hlt : ((oRect L).emb x 0).val < 8 := ((oRect L).emb x 0).isLt
  have hb : bAt fw (x 0) = fw (word ⟨48 + ((oRect L).emb x 0).val, by omega⟩) :=
    (congrArg (bAt fw) h0.symm).trans (bAt_eq fw ((oRect L).emb x 0))
  have hw : wAt fw (x 0) = fun i => fw (word ⟨6 * ((oRect L).emb x 0).val + i.val, by omega⟩) :=
    (congrArg (wAt fw) h0.symm).trans (funext fun i => wAt_eq fw ((oRect L).emb x 0) i)
  unfold tileOut outT
  rw [hb, hw]
  refine congrArg (fun v => lin v _ _) (funext fun i => congrArg fv (Rect.emb_eq_of_coords _ _ _ fun a => ?_))
  have e : k0_off1 L = k0_off16 L := (k0_off1_eq L).trans (k0_off16_eq L).symm
  fin_cases a
  · show i.val = k0_off1 L 0 + 1 * i.val
    rw [k0_off1_eq, Nat.one_mul]; exact (Nat.zero_add _).symm
  · show k0_off16 L 1 + 1 * (x 1).val = k0_off1 L 1 + 1 * (x 1).val
    rw [e]

/-- The copy out of a done scratch leaves the block at `outT`. -/
theorem block_written (fv : Buf (Elt F) (vLoc d)) (fw : Buf (Elt F) (wLoc d)) (fo : Buf (Elt F) (oLoc d)) (f : (oS).view.ty.Contents (Elt F))
    (hf : Agree 16 ((vSl L).view.read (Elt F) fv) (wAt fw) (bAt fw) f) :
    ∀ y ∈ (oSl L).view.set, (oSl L).view.writes (Elt F) fo [⟨Rect.whole S8x1024, f⟩] y = outT fv fw y := by
  have hr : ∀ (g : Buf (Elt F) (oLoc d)) x, (oSl L).view.read (Elt F) g x = g ((oRect L).emb x) := fun g x =>
    (View.read_apply _ _).trans (cast_eq _ _)
  intro y hy
  have hy : y ∈ (oRect L).set := by
    have h : ((View.whole (main_v4_scv : Ref sig .scVector)).slice (oRect L)).set = (oRect L).set := by
      rw [View.set_slice]; exact Finset.map_refl
    exact h ▸ hy
  obtain ⟨x, rfl⟩ := (oRect L).exists_idx_of_mem hy
  refine (hr _ x).symm.trans ?_
  refine View.read_writes_apply_of_pieces (oSl L).view fo (fun x => outT fv fw ((oRect L).emb x)) _ (fun p hp x => ?_) x
    ⟨_, List.mem_singleton.mpr rfl, by rw [Rect.set_whole]; exact Finset.mem_univ x⟩
  obtain rfl := List.mem_singleton.mp hp
  have e : (Rect.whole S8x1024).emb x = x := Rect.emb_whole_apply S8x1024 x
  show f x = outT fv fw ((oRect L).emb ((Rect.whole S8x1024).emb x))
  rw [e]
  exact block_value d L fv fw f hf x

set_option maxHeartbeats 8000000 in
/-- The task on tile `(L 0, L 1)` of device `d`: its block of the output ends at `outT`'s values. -/
theorem tile_body (hF : (K (F := F)).Facts) (O : CellTallies nD τ sig (HIx 1)) (W : Waits sig (HIx 1)) (hO : ∀ g, O g none = 0)
    (fv : Buf (Elt F) (vLoc d)) (fw : Buf (Elt F) (wLoc d)) (fo : Buf (Elt F) (oLoc d)) :
    iprop(levAts (K (F := F)).L (K (F := F)).lev ∗ emp ∗ tilePts d fv fw (cL L) (sL L) fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_run L vtV (Memref.isWhole_whole _) wbV (Memref.isWhole_whole _) otV (Memref.isWhole_whole _)
            vS (Memref.isWhole_whole _) oS (Memref.isWhole_whole _) wS (Memref.isWhole_whole _) cc0_scoped0 cc0_scoped1 cc0_scoped2)
          fun _ => iprop(tilePts d fv fw (cL L) (sL L) (outT fv fw)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_run_eq_skeleton]; unfold cc0_run_skel
  rw [(K (F := F)).scopedBufs_V hF d (cV L) (jV L), SparseCore.Cfg.scopedSems0_V (Val := Elt F) d (cV L) (jV L), ownSems0_V, ownBufs_V]
  iintro ⟨#Hlv, -, ⟨Hv, Hw, Ho⟩, ⟨⟨%gv, Hgv⟩, ⟨%go, Hgo⟩, ⟨%gw, Hgw⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hv := (Entails.of_eq (show (vLoc d ↦{rq (cL L) (sL L)} fv : sProp 𝕄) = ((vtV).view.loc (V d (cV L) (jV L)) ↦{rq (cL L) (sL L)} fv) from rfl)) $$ Hv
  ihave Hw := (Entails.of_eq (show (wLoc d ↦{rq (cL L) (sL L)} fw : sProp 𝕄) = ((wbV).view.loc (V d (cV L) (jV L)) ↦{rq (cL L) (sL L)} fw) from rfl)) $$ Hw
  ihave Ho := (Entails.of_eq (pts_oSl (F := F) d L _).symm) $$ Ho
  ihave Hgv := (Entails.of_eq (show ((V d (cV L) (jV L)).loc cc0_scratch0 ↦{fullShare} gv : sProp 𝕄) = ((vS).view.loc (V d (cV L) (jV L)) ↦{fullShare} gv) from rfl)) $$ Hgv
  ihave Hgo := (Entails.of_eq (show ((V d (cV L) (jV L)).loc cc0_scratch1 ↦{fullShare} go : sProp 𝕄) = ((oS).view.loc (V d (cV L) (jV L)) ↦{fullShare} go) from rfl)) $$ Hgo
  ihave Hgw := (Entails.of_eq (show ((V d (cV L) (jV L)).loc cc0_scratch2 ↦{fullShare} gw : sProp 𝕄) = ((wS).view.loc (V d (cV L) (jV L)) ↦{fullShare} gw) from rfl)) $$ Hgw
  sl_exec
  sl_for (inv d L (View.write (Elt F) (vS).view gv (tile_body.sl.dma0_1 d L fv) Finset.univ)
    (wAt (View.write (Elt F) (wS).view gw (tile_body.sl.dma0 d fw) Finset.univ))
    (bAt (View.write (Elt F) (wS).view gw (tile_body.sl.dma0 d fw) Finset.univ))) $$ [Hgv Hgo]
  case region =>
    intro k _
    exact trip_inv d L k _ _ _
  · unfold inv
    isplitl [Hgv]; · iexact Hgv
    iexists _; isplitr
    swap; · iexact Hgo
    ipureintro; exact fun y hy => absurd hy (Nat.not_lt_zero _)
  unfold inv
  iintro %_ ⟨Hgv, %f, %hf, Hgo⟩
  sl_exec
  sl_step
  rw [View.write_whole_univ, View.write_whole_univ] at hf
  have hw := block_written d L fv fw fo f hf
  ihave Ho := (Entails.of_eq (pointsTo_congr hw)) $$ Ho
  isplitl [Hv Hw Ho]
  · isplitl [Hv]; · iexact Hv
    isplitl [Hw]; · iexact Hw
    iapply (Entails.of_eq (pts_oSl (F := F) d L _)); iexact Ho
  isplitl [Hgv Hgo Hgw Hbufs]
  · isplitl [Hgv]; · iexists _; iexact Hgv
    isplitl [Hgo]; · iexists _; iexact Hgo
    isplitl [Hgw]; · iexists _; iexact Hgw
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  rcases Finset.mem_insert.mp hp with rfl | hp; · exact .inr rfl
  rcases Finset.mem_insert.mp hp with rfl | hp; · exact .inr rfl
  rcases Finset.mem_insert.mp hp with rfl | hp; · exact .inr rfl
  exact .inl hp

end Tile

end Cert.Proof.Linear

end
-- ==== Proof.Linear.Launch.lean ====
/-
  The call's launch: what each SparseCore is handed and brings back (its sixteen tiles' parts), the tile's obligation,
  and the split of the whole arrays into the 32 tiles' parts and back.
-/
module

public import proofs.«01_k».proof.Proof.Linear.Tile

@[expose] public section

noncomputable section

namespace Cert.Proof.Linear

open Cert.KernelIdeal Cert.KernelIdeal.Gen

open Idealize.ShloMosaic
open Idealize.ShloMosaic.SparseCore (S V T)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "vtV" => (Memref.whole Cert.KernelIdeal.main_v3_scv : Memref Cert.KernelIdeal.sig Kind.scVector Space.hbm Cert.KernelIdeal.S6x32768 EltTy.f32)
local notation "wbV" => (Memref.whole Cert.KernelIdeal.main_v2_scv : Memref Cert.KernelIdeal.sig Kind.scVector Space.hbm Cert.KernelIdeal.S64 EltTy.f32)
local notation "otV" => (Memref.whole Cert.KernelIdeal.main_v4_scv : Memref Cert.KernelIdeal.sig Kind.scVector Space.hbm Cert.KernelIdeal.S8x32768 EltTy.f32)
local notation "vS" => (Memref.whole Cert.KernelIdeal.cc0_scratch0 : Memref Cert.KernelIdeal.sig Kind.scVector Space.vmem Cert.KernelIdeal.S6x1024 EltTy.f32)
local notation "oS" => (Memref.whole Cert.KernelIdeal.cc0_scratch1 : Memref Cert.KernelIdeal.sig Kind.scVector Space.vmem Cert.KernelIdeal.S8x1024 EltTy.f32)
local notation "wS" => (Memref.whole Cert.KernelIdeal.cc0_scratch2 : Memref Cert.KernelIdeal.sig Kind.scVector Space.vmem Cert.KernelIdeal.S64 EltTy.f32)

/-! ## The call's operands -/

variable (m : (ℓ : Loc nD τ sig) → Buf (Elt F) ℓ) (ρ : Dev nD → PrngReg)

/-- The tokens feature by feature. -/
def tokT (x : S32768x6.Idx → F .f32) : S6x32768.Idx → F .f32 := transpose S6x32768 [1, 0] x transposes_S32768x6_S6x32768_1_0

/-- The weights row by row, then the biases, then eight zeros. -/
def wts (w : S8x6.Idx → F .f32) (b : S8.Idx → F .f32) : S64.Idx → F .f32 :=
  pad S64 ![0] ![8] ![0] (concatenate S56 0 [⟨S48, shapeCast S48 w shapeCasts_S8x6_S48⟩, ⟨S8, b⟩] concatenates_S48_S8_S56_d0)
    (sitofp .f32 (constantI S_ 32 0#32)) pads_S56_S64_080 h_S_

/-- The call's operands on device `d`, from the program's arguments there. -/
abbrev tokD (d : Dev nD) : Buf (Elt F) (vLoc d) := tokT (m ((SparseCore.T d).loc main_arg0))
abbrev wtsD (d : Dev nD) : Buf (Elt F) (wLoc d) := wts (m ((SparseCore.T d).loc main_arg2)) (m ((SparseCore.T d).loc main_arg3))

/-! ## What the handshakes carry -/

/-- Tile `s` of SparseCore `c` is handed its shares of the operands and its block of the output, -/
abbrev goP (d : Dev nD) (c : Fin 2) (s : Fin 16) : sProp 𝕄 := tilePts d (tokD m d) (wtsD m d) c s (m (oLoc d))
/-- and brings them back, the block at `outT`'s values. -/
abbrev tdP (d : Dev nD) (c : Fin 2) (s : Fin 16) : sProp 𝕄 := tilePts d (tokD m d) (wtsD m d) c s (outT (tokD m d) (wtsD m d))

/-- Each SparseCore is handed its tiles' parts together, and brings back what they bring back. -/
def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-! ## The tiles' obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          vtV (Memref.isWhole_whole _) wbV (Memref.isWhole_whole _) otV (Memref.isWhole_whole _)
          vS (Memref.isWhole_whole _) oS (Memref.isWhole_whole _) wS (Memref.isWhole_whole _) cc0_scoped0 cc0_scoped1 cc0_scoped2) ⟨⟩ c s := rfl

/-- A task that recorded only waits of its own copies recorded none of another call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task as the launch asks. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O W hO (tokD m d) (wtsD m d) (m (oLoc d))).trans
    (wp_mono frame _ _ fun _ => obl_post)

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part is its tiles' parts. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun s : Fin 16 => tdP m d (Fin.cast nCore_zero c) s))
  rw [bigSep_tiles (F := F) (fun s => goP m d (Fin.cast nCore_zero c) s), bigSep_tiles (F := F) (fun s => tdP m d (Fin.cast nCore_zero c) s)]
  iintro H; imodintro
  isplitl [H]; · iexact H
  iintro H; iexact H

/-! ## The whole arrays and the tiles' parts -/

theorem mem_oBlk {c : Fin 2} {s : Fin 16} {y : S8x32768.Idx} : y ∈ oBlk c s ↔ (y 1).val / 1024 = 2 * s.val + c.val := by
  unfold oBlk; rw [Finset.mem_filter]; exact ⟨fun h => h.2, fun h => ⟨Finset.mem_univ _, h⟩⟩

theorem oBlk_disjoint : ∀ p ∈ (Finset.univ : Finset (Fin 2 × Fin 16)), ∀ p' ∈ (Finset.univ : Finset (Fin 2 × Fin 16)), p ≠ p' →
    Disjoint (oBlk p.1 p.2) (oBlk p'.1 p'.2) := by
  intro p _ p' _ h
  refine Finset.disjoint_left.mpr fun y hy hy' => h ?_
  have e := mem_oBlk.mp hy; have e' := mem_oBlk.mp hy'
  exact Prod.ext (Fin.ext (by omega)) (Fin.ext (by omega))

theorem oBlk_cover : (Finset.univ : Finset (Fin 2 × Fin 16)).biUnion (fun p => oBlk p.1 p.2) = Finset.univ := by
  refine Finset.eq_univ_iff_forall.mpr fun y => Finset.mem_biUnion.mpr ?_
  have hy : (y 1).val < 32768 := (y 1).isLt
  refine ⟨(⟨(y 1).val / 1024 % 2, by omega⟩, ⟨(y 1).val / 1024 / 2, by omega⟩), Finset.mem_univ _, mem_oBlk.mpr ?_⟩
  show (y 1).val / 1024 = 2 * ((y 1).val / 1024 / 2) + (y 1).val / 1024 % 2
  omega

/-- The output whole is its 32 blocks. -/
theorem oPts_blocks (d : Dev nD) (f : Buf (Elt F) (oLoc d)) :
    (oLoc d ↦{fullShare} f : sProp 𝕄) = bigSep Finset.univ fun c : Fin 2 => bigSep Finset.univ fun s : Fin 16 => oLoc d ↦[oBlk c s]{fullShare} f := by
  rw [← bigSep_univ_prod (fun p : Fin 2 × Fin 16 => (oLoc d ↦[oBlk p.1 p.2]{fullShare} f : sProp 𝕄)),
    ← pointsTo_biUnion Finset.univ (ℓ := oLoc d) (fun p : Fin 2 × Fin 16 => oBlk p.1 p.2) oBlk_disjoint, oBlk_cover]

/-- An array whole is its 32 shares. -/
theorem pts_shares (ℓ : Loc nD τ sig) (f : Buf (Elt F) ℓ) :
    (ℓ ↦{fullShare} f : sProp 𝕄) = bigSep Finset.univ fun c : Fin 2 => bigSep Finset.univ fun s : Fin 16 => ℓ ↦{rq c s} f :=
  (ShareLeaves.pointsTo_leaves Finset.univ f 1 fullShare).trans
    (bigSep_congr fun c _ => ShareLeaves.pointsTo_leaves Finset.univ f 4 (ShareLeaves.leaf 1 fullShare c))

/-- The three arrays whole are the tiles' parts. -/
theorem parts (d : Dev nD) (fv : Buf (Elt F) (vLoc d)) (fw : Buf (Elt F) (wLoc d)) (fo : Buf (Elt F) (oLoc d)) :
    (bigSep Finset.univ fun c : Fin 2 => bigSep Finset.univ fun s : Fin 16 => tilePts d fv fw c s fo)
      = (iprop((vLoc d ↦{fullShare} fv) ∗ (wLoc d ↦{fullShare} fw) ∗ oLoc d ↦{fullShare} fo) : sProp 𝕄) := by
  rw [pts_shares (vLoc d) fv, pts_shares (wLoc d) fw, oPts_blocks d fo, ← bigSep_sep', ← bigSep_sep']
  refine bigSep_congr fun c _ => ?_
  rw [← bigSep_sep', ← bigSep_sep']

/-- What the call takes and what it gives back. -/
theorem st0_eq (d : Dev nD) : (bigSep Finset.univ fun c : Fin ((K (F := F)).nCore 0) => (P m).st 0 d c)
    = (iprop((vLoc d ↦{fullShare} tokD m d) ∗ (wLoc d ↦{fullShare} wtsD m d) ∗ oLoc d ↦{fullShare} m (oLoc d)) : sProp 𝕄) :=
  (bigSep_cores (F := F) (fun c => bigSep Finset.univ fun s : Fin 16 => goP m d c s)).trans (parts d _ _ _)
@[inherit_doc st0_eq] theorem dn0_eq (d : Dev nD) : (bigSep Finset.univ fun c : Fin ((K (F := F)).nCore 0) => (P m).dn 0 d c)
    = (iprop((vLoc d ↦{fullShare} tokD m d) ∗ (wLoc d ↦{fullShare} wtsD m d) ∗ oLoc d ↦{fullShare} outT (tokD m d) (wtsD m d)) : sProp 𝕄) :=
  (bigSep_cores (F := F) (fun c => bigSep Finset.univ fun s : Fin 16 => tdP m d c s)).trans (parts d _ _ _)

/-! ## The launch element of the proof's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none]
  iempintro

end Cert.Proof.Linear

end
-- ==== Proof.Linear.Main.lean ====
/-
  The program on the TensorCore, the call included, and the whole program's run: over any float values, from any memory
  with zero counters, every weakly fair execution ends with the result at the transpose of `outT`, the arguments
  unchanged and every counter zero.
-/
module

public import proofs.«01_k».proof.Proof.Linear.Launch

@[expose] public section

noncomputable section

namespace Cert.Proof.Linear

open Cert.KernelIdeal Cert.KernelIdeal.Gen

open Idealize.ShloMosaic
open Idealize.ShloMosaic.SparseCore (S V T)
open Idealize.ShloMosaic.SparseCore.Cfg (HIx Pay)
open Idealize.ShloMosaic.StableHlo (held held_split wp_hlo_within after)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays -/

/-- An array of the TensorCore, as a reference of the device and as a location. -/
abbrev dr (b : Ref sig .tc) : DevRef τ sig := Proc.devRef .tc b
@[inherit_doc dr] abbrev loc (d : Dev nD) (b : Ref sig .tc) : Loc nD τ sig := (SparseCore.T d).loc b

/-- All the arrays of the program. -/
abbrev arrays : Finset (DevRef τ sig) := {dr main_arg0, dr main_arg1, dr main_arg2, dr main_arg3, dr main_v0, dr main_v1, dr main_c, dr main_call0_v0, dr main_v2, dr main_v3, dr main_v4, dr main_v5}

theorem held_arrays (d : Dev nD) (W : Valuation τ sig (Elt F)) :
    (held (T d) arrays W : sProp 𝕄)
      = iprop((loc d main_arg0 ↦{fullShare} W (dr main_arg0)) ∗ (loc d main_arg1 ↦{fullShare} W (dr main_arg1)) ∗ (loc d main_arg2 ↦{fullShare} W (dr main_arg2)) ∗ (loc d main_arg3 ↦{fullShare} W (dr main_arg3)) ∗ (loc d main_v0 ↦{fullShare} W (dr main_v0)) ∗ (loc d main_v1 ↦{fullShare} W (dr main_v1)) ∗ (loc d main_c ↦{fullShare} W (dr main_c)) ∗ (loc d main_call0_v0 ↦{fullShare} W (dr main_call0_v0)) ∗ (loc d main_v2 ↦{fullShare} W (dr main_v2)) ∗ (loc d main_v3 ↦{fullShare} W (dr main_v3)) ∗ (loc d main_v4 ↦{fullShare} W (dr main_v4)) ∗ (loc d main_v5 ↦{fullShare} W (dr main_v5))) := by
  unfold held arrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((loc d main_arg0 ↦{fullShare} W main_arg0) ∗ (loc d main_arg1 ↦{fullShare} W main_arg1) ∗ (loc d main_arg2 ↦{fullShare} W main_arg2) ∗ (loc d main_arg3 ↦{fullShare} W main_arg3) ∗ (loc d main_v0 ↦{fullShare} W main_v0) ∗ (loc d main_v1 ↦{fullShare} W main_v1) ∗ (loc d main_c ↦{fullShare} W main_c) ∗ (loc d main_call0_v0 ↦{fullShare} W main_call0_v0) ∗ (loc d main_v2 ↦{fullShare} W main_v2) ∗ (loc d main_v3 ↦{fullShare} W main_v3) ∗ (loc d main_v4 ↦{fullShare} W main_v4) ∗ (loc d main_v5 ↦{fullShare} W main_v5)) := by
  unfold unscopedBufs
  rw [show (Finset.univ.filter fun b : Ref sig .tc => ¬ b.isScoped) = {main_arg0, main_arg1, main_arg2, main_arg3, main_v0, main_v1, main_c, main_call0_v0, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The operations around the call -/

abbrev op1 : HloOp τ sig (Elt F) := StableHlo.reshape main_arg2 main_v0 (rfl : (.f32 : EltTy) = .f32) shapeCasts_S8x6_S48
abbrev op2 : HloOp τ sig (Elt F) := StableHlo.binary main_v0 main_arg3 main_v1 ((fun a b => concatenate S56 0 [⟨S48, a⟩, ⟨S8, b⟩] concatenates_S48_S8_S56_d0) : (⟨S48, .f32⟩ : BufTy).Contents (Elt F) → (⟨S8, .f32⟩ : BufTy).Contents (Elt F) → (⟨S56, .f32⟩ : BufTy).Contents (Elt F))
abbrev op3 : HloOp τ sig (Elt F) := StableHlo.nullary main_c (constantI S_ 32 0#32)
abbrev op4 : HloOp τ sig (Elt F) := StableHlo.unary main_c main_call0_v0 (sitofp .f32)
abbrev op5 : HloOp τ sig (Elt F) := StableHlo.binary main_v1 main_call0_v0 main_v2 (fun x v => pad S64 ![0] ![8] ![0] x v pads_S56_S64_080 h_S_)
abbrev op6 : HloOp τ sig (Elt F) := StableHlo.unary main_arg0 main_v3 ((transpose S6x32768 [1, 0] · transposes_S32768x6_S6x32768_1_0) : (⟨S32768x6, .f32⟩ : BufTy).Contents (Elt F) → (⟨S6x32768, .f32⟩ : BufTy).Contents (Elt F))
abbrev op7 : HloOp τ sig (Elt F) := StableHlo.unary main_v4 main_v5 ((transpose S32768x8 [1, 0] · transposes_S8x32768_S32768x8_1_0) : (⟨S8x32768, .f32⟩ : BufTy).Contents (Elt F) → (⟨S32768x8, .f32⟩ : BufTy).Contents (Elt F))

/-- The arrays at the launch, before the call, after it, and at the end. -/
def V0 (d : Dev nD) : Valuation τ sig (Elt F) := fun b => m (d, b)
@[inherit_doc V0] def V1 (d : Dev nD) : Valuation τ sig (Elt F) := after [op1, op2, op3, op4, op5, op6] (V0 m d)
@[inherit_doc V0] def V2 (d : Dev nD) : Valuation τ sig (Elt F) := Function.update (V1 m d) (dr main_v4) (outT (tokD m d) (wtsD m d))
@[inherit_doc V0] def V3 (d : Dev nD) : Valuation τ sig (Elt F) := (op7 (F := F)).result (V2 m d)

theorem V1_v3 (d : Dev nD) : V1 m d (dr main_v3) = tokD m d := by unfold V1; after_results; rfl
theorem V1_v2 (d : Dev nD) : V1 m d (dr main_v2) = wtsD m d := by unfold V1; after_results; rfl
theorem V1_v4 (d : Dev nD) : V1 m d (dr main_v4) = m (oLoc d) := by unfold V1; after_results; rfl
theorem V1_arg0 (d : Dev nD) : V1 m d (dr main_arg0) = m (loc d main_arg0) := by unfold V1; after_results; rfl
theorem V1_arg1 (d : Dev nD) : V1 m d (dr main_arg1) = m (loc d main_arg1) := by unfold V1; after_results; rfl
theorem V1_arg2 (d : Dev nD) : V1 m d (dr main_arg2) = m (loc d main_arg2) := by unfold V1; after_results; rfl
theorem V1_arg3 (d : Dev nD) : V1 m d (dr main_arg3) = m (loc d main_arg3) := by unfold V1; after_results; rfl

/-- After the call the output is `outT`'s; every other array is as before it. -/
theorem V2_v4 (d : Dev nD) : V2 m d (dr main_v4) = outT (tokD m d) (wtsD m d) := Function.update_self _ _ _
theorem V2_ne (d : Dev nD) {b : DevRef τ sig} (h : b ≠ dr main_v4) : V2 m d b = V1 m d b := Function.update_of_ne h _ _

/-- The program's result on device `d`: the transpose of `outT`. -/
def outD (d : Dev nD) : Buf (Elt F) (loc d main_v5) := transpose S32768x8 [1, 0] (outT (tokD m d) (wtsD m d)) transposes_S8x32768_S32768x8_1_0

theorem V3_v5 (d : Dev nD) : V3 m d (dr main_v5) = outD m d :=
  (StableHlo.unary_result _ _ _ _ _ _).trans (by rw [V2_v4]; rfl)
theorem V3_ne (d : Dev nD) {b : DevRef τ sig} (h5 : b ≠ dr main_v5) (h4 : b ≠ dr main_v4) : V3 m d b = V1 m d b :=
  ((op7 (F := F)).result_of_not_mem _ (show b ∉ ({dr main_v5} : Finset (DevRef τ sig)) by rwa [Finset.mem_singleton])).trans (V2_ne m d h4)

/-! ## @main on the TensorCore -/

/-- What the claims need at the end: the arguments at their launch contents, the result at its value. -/
abbrev FIN (d : Dev nD) : sProp 𝕄 :=
  iprop((loc d main_arg0 ↦{fullShare} m (loc d main_arg0)) ∗ (loc d main_arg1 ↦{fullShare} m (loc d main_arg1))
    ∗ (loc d main_arg2 ↦{fullShare} m (loc d main_arg2)) ∗ (loc d main_arg3 ↦{fullShare} m (loc d main_arg3))
    ∗ loc d main_v5 ↦{fullShare} outD m d)

/-- The arrays before the call: the call's three, and the rest. -/
abbrev restD (d : Dev nD) (W : Valuation τ sig (Elt F)) : sProp 𝕄 :=
  iprop((loc d main_arg0 ↦{fullShare} W (dr main_arg0)) ∗ (loc d main_arg1 ↦{fullShare} W (dr main_arg1)) ∗ (loc d main_arg2 ↦{fullShare} W (dr main_arg2)) ∗ (loc d main_arg3 ↦{fullShare} W (dr main_arg3)) ∗ (loc d main_v0 ↦{fullShare} W (dr main_v0)) ∗ (loc d main_v1 ↦{fullShare} W (dr main_v1)) ∗ (loc d main_c ↦{fullShare} W (dr main_c)) ∗ (loc d main_call0_v0 ↦{fullShare} W (dr main_call0_v0)) ∗ (loc d main_v5 ↦{fullShare} W (dr main_v5)))

theorem held_V1 (d : Dev nD) : (held (T d) arrays (V1 m d) : sProp 𝕄)
    ⊢ iprop(((vLoc d ↦{fullShare} tokD m d) ∗ (wLoc d ↦{fullShare} wtsD m d) ∗ oLoc d ↦{fullShare} m (oLoc d)) ∗ restD d (V1 m d)) := by
  rw [held_arrays, V1_v3, V1_v2, V1_v4]
  iintro ⟨H0, H1, H2, H3, H4, H5, H6, H7, Hw, Hv, Ho, H8⟩
  isplitl [Hv Hw Ho]
  · isplitl [Hv]; · iexact Hv
    isplitl [Hw]; · iexact Hw
    iexact Ho
  sl_close

theorem held_V2 (d : Dev nD) :
    iprop(((vLoc d ↦{fullShare} tokD m d) ∗ (wLoc d ↦{fullShare} wtsD m d) ∗ oLoc d ↦{fullShare} outT (tokD m d) (wtsD m d)) ∗ restD d (V1 m d))
      ⊢ (held (T d) arrays (V2 m d) : sProp 𝕄) := by
  rw [held_arrays, V2_v4]
  repeat rw [V2_ne m d (by decide)]
  rw [V1_v3, V1_v2]
  iintro ⟨⟨Hv, Hw, Ho⟩, H0, H1, H2, H3, H4, H5, H6, H7, H8⟩
  sl_close

theorem held_V3 (d : Dev nD) : (held (T d) arrays (V3 m d) : sProp 𝕄) ⊢ FIN m d := by
  rw [held_arrays, V3_v5, V3_ne m d (b := dr main_arg0) (by decide) (by decide), V3_ne m d (b := dr main_arg1) (by decide) (by decide),
    V3_ne m d (b := dr main_arg2) (by decide) (by decide), V3_ne m d (b := dr main_arg3) (by decide) (by decide), V1_arg0, V1_arg1, V1_arg2, V1_arg3]
  iintro ⟨H0, H1, H2, H3, -, -, -, -, -, -, -, H5⟩
  sl_close

theorem unscoped_held (d : Dev nD) : (unscopedBufs d (fun b => m ((SparseCore.T d).loc b)) : sProp 𝕄) = held (T d) arrays (V0 m d) := by
  rw [unscopedBufs_eq, held_arrays]; rfl

/-- @main on device `d`'s TensorCore: the six operations before the call, the call, the transpose after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op1) (S := arrays)
    (show ({dr main_arg2, dr main_v0} : Finset (DevRef τ sig)) ⊆ arrays by decide) (V := V0 m d)) $$ [Hb Hheld]
  · isplitl [Hb] <;> iassumption
  iintro ⟨Hb, Hheld⟩
  rw [wp_ret]; imodintro
  iapply (wp_hlo_within 𝒱 (SparseCore.T d) none Set.univ (op := op2) (S := arrays)
    (show ({dr main_v0, dr main_arg3, dr main_v1} : Finset (DevRef τ sig)) ⊆ arrays by decide) (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := arrays)
    (show ({dr main_c} : Finset (DevRef τ sig)) ⊆ arrays by decide) (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := arrays)
    (show ({dr main_c, dr main_call0_v0} : Finset (DevRef τ sig)) ⊆ arrays by decide) (V := (op3 (F := F)).result ((op2 (F := F)).result ((op1 (F := F)).result (V0 m d))))) $$ [Hb Hheld]
  · isplitl [Hb] <;> iassumption
  iintro ⟨Hb, Hheld⟩
  rw [wp_ret]; imodintro
  iapply (wp_hlo_within 𝒱 (SparseCore.T d) none Set.univ (op := op5) (S := arrays)
    (show ({dr main_v1, dr main_call0_v0, dr main_v2} : Finset (DevRef τ sig)) ⊆ arrays by decide) (V := (op4 (F := F)).result ((op3 (F := F)).result ((op2 (F := F)).result ((op1 (F := F)).result (V0 m d)))))) $$ [Hb Hheld]
  · isplitl [Hb] <;> iassumption
  iintro ⟨Hb, Hheld⟩
  rw [wp_ret]; imodintro
  imodintro
  iapply (wp_hlo_within 𝒱 (SparseCore.T d) none Set.univ (op := op6) (S := arrays)
    (show ({dr main_arg0, dr main_v3} : Finset (DevRef τ sig)) ⊆ arrays by decide) (V := (op5 (F := F)).result ((op4 (F := F)).result ((op3 (F := F)).result ((op2 (F := F)).result ((op1 (F := F)).result (V0 m d))))))) $$ [Hb Hheld]
  · isplitl [Hb] <;> iassumption
  iintro ⟨Hb, Hheld⟩
  rw [wp_ret]; imodintro
  ihave Hh := (show (held (T d) arrays ((op6 (F := F)).result ((op5 (F := F)).result ((op4 (F := F)).result ((op3 (F := F)).result ((op2 (F := F)).result ((op1 (F := F)).result (V0 m d))))))) : sProp 𝕄) ⊢ _ from held_V1 m d) $$ Hheld
  icases Hh with ⟨Hcall, Hrest⟩
  iapply ((K (F := F)).wp_run (D (F := F)) 𝒱 (EH := EH) (P := P m) κ d 0) $$ [Hst Hcall Hb Hrest Hts]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  ihave Hheld := (held_V2 m d) $$ [Hdn' Hrest]
  · isplitl [Hdn'] <;> iassumption
  iapply (wp_hlo_within 𝒱 (SparseCore.T d) none Set.univ (op := op7) (S := arrays)
    (show ({dr main_v4, dr main_v5} : Finset (DevRef τ sig)) ⊆ arrays by decide) (V := V2 m d)) $$ [Hb Hheld]
  · isplitl [Hb] <;> iassumption
  iintro ⟨Hb, Hheld⟩
  rw [wp_ret]; imodintro; imodintro
  isplitl [Hst]; · iexact Hst
  isplitl [Hheld]; · iapply (show (held (T d) arrays ((op7 (F := F)).result (V2 m d)) : sProp 𝕄) ⊢ _ from held_V3 m d); iexact Hheld
  isplitl [Hb] <;> iassumption

/-! ## The run -/

/-- What the claims read of device `d`'s final memory. -/
def Done (d : Dev nD) (mem : (ℓ : Loc nD τ sig) → Buf (Elt F) ℓ) : Prop :=
  mem (loc d main_arg0) = m (loc d main_arg0) ∧ mem (loc d main_arg1) = m (loc d main_arg1) ∧ mem (loc d main_arg2) = m (loc d main_arg2)
    ∧ mem (loc d main_arg3) = m (loc d main_arg3) ∧ mem (loc d main_v5) = outD m d

/-- An array held whole is what the final memory has there. -/
theorem agree (s' : Phys nD τ sig (Elt F)) (ℓ : Loc nD τ sig) (f : Buf (Elt F) ℓ) (R : sProp 𝕄) :
    iprop(((ℓ ↦{fullShare} f) ∗ R) ∗ SI s') ⊢ (iprop(⌜s'.mem.mem ℓ = f⌝ ∗ R ∗ SI s') : sProp 𝕄) := by
  iintro ⟨⟨H, HR⟩, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  isplitl [HR] <;> iassumption

theorem hfin (d : Dev nD) (s' : Phys nD τ sig (Elt F)) : iprop(FIN m d ∗ SI s') ⊢ (⌜Done m d s'.mem.mem⌝ : sProp 𝕄) := by
  iintro H
  ihave H := (agree s' _ _ _) $$ H
  icases H with ⟨%h0, H⟩
  ihave H := (agree s' _ _ _) $$ H
  icases H with ⟨%h1, H⟩
  ihave H := (agree s' _ _ _) $$ H
  icases H with ⟨%h2, H⟩
  ihave H := (agree s' _ _ _) $$ H
  icases H with ⟨%h3, H, HSI⟩
  ihave H := (SI_pointsTo_agree (st := s') (ℓ := loc d main_v5) (I := Finset.univ) (q := fullShare) (f := outD m d)) $$ [HSI H]
  · isplitl [HSI] <;> iassumption
  icases H with %h4
  ipureintro; exact ⟨h0, h1, h2, h3, funext fun i => h4 i (Finset.mem_univ i)⟩

/-- The program's run. -/
theorem run_main [∀ e, Nonempty (Elt F e)] :
    θ_run (Cert.KernelIdeal.defs (F := F)) (Cert.KernelIdeal.threads (F := F)) ⟨m, fun _ => 0, ρ⟩
      (fun r => (∀ d : Dev nD, Done m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ)
    (fun d s' => Done m d s'.mem.mem) (hfin m) (fun r => (∀ d : Dev nD, Done m d r.2.mem) ∧ r.2.sem = fun _ => 0) (fun _ h hz => ⟨h, hz⟩)

end Cert.Proof.Linear

end
-- ==== Proof.Linear.Value.lean ====
/-
  The value of the kernel's result at the ideal values, as an equation between tensors: the transpose of `outT` is the
  reference's `x @ W.T + b`. The kernel reads the weights out of one vector of 64 words (the rows of `W`, then `b`, then
  padding) and adds the bias after the first product; both sides are sums of the same seven extended reals.
-/
module

public import proofs.«01_k».proof.Proof.Linear.Launch
public import proofs.«01_k».proof.Proof.Gen.ReferenceIdeal
public import Idealize.ShloMosaic.Lib.Pipeline.Value
public import Idealize.ShloMosaic.Lib.Pointwise

@[expose] public section

noncomputable section

namespace Cert.Proof.Linear

open Cert.KernelIdeal Cert.KernelIdeal.Gen Idealize.ShloMosaic

section Entries

variable {F : FTy → Type} [FloatOps F]

/-- The transposed inputs hold feature `i` of token `t` in row `i`, column `t`. -/
theorem tokT_apply (x : S32768x6.Idx → F .f32) (i : Fin 6) (t : Fin 32768) :
    tokT x (Fin.cons i (Fin.cons t finZeroElim)) = x (ix2 t i) :=
  transpose_apply _ x _ _ _ fun a => by fin_cases a <;> rfl

/-- Below word 56 the padded vector is the rows of the weights followed by the bias. -/
theorem wts_inner (w : S8x6.Idx → F .f32) (b : S8.Idx → F .f32) (n : Fin 64) (hn : n.val < 56) :
    wts w b (word n) = concatenate S56 0 [⟨S48, shapeCast S48 w shapeCasts_S8x6_S48⟩, ⟨S8, b⟩]
      concatenates_S48_S8_S56_d0 (ix1 ⟨n.val, hn⟩) := by
  unfold wts
  rw [pad_apply, dif_pos (fun a => by fin_cases a; exact ⟨Nat.zero_le _, Nat.mod_one _, by
    show (n.val - 0) / 1 < 56; omega⟩)]
  refine congrArg _ (funext fun a => Fin.ext ?_)
  fin_cases a
  show (n.val - 0) / 1 = n.val
  omega

/-- Word `6 o + i` of the parameters is the weight of feature `i` in output `o`. -/
theorem wts_weight (w : S8x6.Idx → F .f32) (b : S8.Idx → F .f32) (o : Fin 8) (i : Fin 6) (h : 6 * o.val + i.val < 64) :
    wts w b (word ⟨6 * o.val + i.val, h⟩) = w (ix2 o i) := by
  have ho := o.isLt
  have hi := i.isLt
  rw [wts_inner w b _ (by show 6 * o.val + i.val < 56; omega)]
  refine (concatenate_pair_apply_left (t := S56) (s₁ := S48) (s₂ := S8) 0 _ _ _ _ rfl (ix1 ⟨6 * o.val + i.val, by omega⟩) ?_).trans ?_
  · intro a; fin_cases a; rfl
  · refine shapeCast_apply w _ _ (ix2 o i) ?_
    rw [rowMajor_val2 _ 6 rfl, rowMajor_val1]
    show o.val * 6 + i.val = 6 * o.val + i.val
    omega

/-- Word `48 + o` of the parameters is the bias of output `o`. -/
theorem wts_bias (w : S8x6.Idx → F .f32) (b : S8.Idx → F .f32) (o : Fin 8) (h : 48 + o.val < 64) :
    wts w b (word ⟨48 + o.val, h⟩) = b (ix1 o) := by
  have ho := o.isLt
  rw [wts_inner w b _ (by show 48 + o.val < 56; omega)]
  refine concatenate_pair_apply_right (t := S56) (s₁ := S48) (s₂ := S8) 0 _ _ _ _ rfl rfl (ix1 o) ?_ ?_
  · intro a ha; fin_cases a; exact absurd rfl ha
  · show o.val + 48 = 48 + o.val
    omega

/-- The kernel's result at token `t` and output `o`: the chain of six products and the bias, over the inputs' row `t`,
    the weights' row `o` and the bias's entry `o`. -/
theorem out_apply (x : S32768x6.Idx → F .f32) (w : S8x6.Idx → F .f32) (b : S8.Idx → F .f32) (t : Fin 32768) (o : Fin 8) :
    transpose S32768x8 [1, 0] (outT (tokT x) (wts w b)) transposes_S8x32768_S32768x8_1_0 (ix2 t o)
      = lin (fun i => x (ix2 t i)) (fun i => w (ix2 o i)) (b (ix1 o)) := by
  refine (transpose_apply (s := S8x32768) _ _ _ _ (ix2 o t) fun a => by fin_cases a <;> rfl).trans ?_
  exact congr (congrArg₂ lin (funext fun i => tokT_apply x i t) (funext fun i => wts_weight w b o i _)) (wts_bias w b o _)

end Entries

/-- The reference's term of the three arguments it reads. -/
def refOut (x : S32768x6.Idx → Ideal .f32) (w : S8x6.Idx → Ideal .f32) (b : S8.Idx → Ideal .f32) : S32768x8.Idx → Ideal .f32 :=
  addf (Host.dotGeneral Cert.ReferenceIdeal.dot_S32768x6_S6x8_S32768x8_1_0_0_1_n_n none x
      (transpose Cert.ReferenceIdeal.S6x8 [1, 0] w Cert.ReferenceIdeal.Gen.transposes_S8x6_S6x8_1_0))
    (broadcastInDim Cert.ReferenceIdeal.S32768x8 ![0, 1] Cert.ReferenceIdeal.Gen.bcast_S1x8_S32768x8_0_1
      (broadcastInDim Cert.ReferenceIdeal.S1x8 ![1] Cert.ReferenceIdeal.Gen.bcast_S8_S1x8_1 b))

/-- The reference's entry at token `t` and output `o`: the inner product of the inputs' row with the weights' row, plus
    the bias. -/
theorem refOut_apply (x : S32768x6.Idx → Ideal .f32) (w : S8x6.Idx → Ideal .f32) (b : S8.Idx → Ideal .f32)
    (t : Fin 32768) (o : Fin 8) :
    refOut x w b (ix2 t o) = (∑ i : Fin 6, x (ix2 t i) * w (ix2 o i)) + b (ix1 o) := by
  pointwise [refOut]

/-- At the ideal values the chain is the sum of the products plus the bias: addition of extended reals is associative
    and commutative. -/
theorem lin_eq_sum (x w : Fin 6 → Ideal .f32) (b : Ideal .f32) : lin x w b = (∑ i : Fin 6, x i * w i) + b := by
  simp only [lin, Ideal.addf_def, Ideal.mulf_def, Fin.sum_univ_succ, Fin.sum_univ_zero, add_zero]
  simp only [Fin.succ_zero_eq_one, Fin.succ_one_eq_two]
  show x 0 * w 0 + b + x 1 * w 1 + x 2 * w 2 + x 3 * w 3 + x 4 * w 4 + x 5 * w 5
    = x 0 * w 0 + (x 1 * w 1 + (x 2 * w 2 + (x 3 * w 3 + (x 4 * w 4 + x 5 * w 5)))) + b
  ac_rfl

/-- The kernel's result is the reference's, at the ideal values and every input. -/
theorem out_eq_ref (x : S32768x6.Idx → Ideal .f32) (w : S8x6.Idx → Ideal .f32) (b : S8.Idx → Ideal .f32) :
    transpose S32768x8 [1, 0] (outT (tokT x) (wts w b)) transposes_S8x32768_S32768x8_1_0 = refOut x w b := by
  funext y
  obtain ⟨t, o, rfl⟩ : ∃ (t : Fin 32768) (o : Fin 8), y = ix2 t o := ⟨y 0, y 1, eq_ix2 y⟩
  rw [out_apply, refOut_apply, lin_eq_sum]

end Cert.Proof.Linear

end
-- ==== Proof.lean ====
/-
  The certificate of the linear map on the SparseCore: the kernel as printed and idealized ends with its arguments
  unchanged and every counter zero, and at the ideal values its result is the reference's `x @ W.T + b`, at every input.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Linear.Main
public import proofs.«01_k».proof.Proof.Linear.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Proof.Linear

/-- The printed kernel, over bit patterns: it ends with its arguments unchanged and every counter zero. -/
theorem frame_kernel : Cert.quiescent_Kernel := fun m ρ _ =>
  (θ_run (Cert.KernelIdeal.defs (F := Bits)) _ _).mono (fun _ h => ⟨fun c => ⟨(h.1 c).1, (h.1 c).2.1, (h.1 c).2.2.1, (h.1 c).2.2.2.1⟩, h.2⟩)
    (run_main (F := Bits) m ρ)

/-- The idealized kernel: it ends with its arguments unchanged and every counter zero. -/
theorem frame_kernelIdeal : Cert.quiescent_KernelIdeal := fun m ρ _ =>
  (θ_run (Cert.KernelIdeal.defs (F := Ideal)) _ _).mono (fun _ h => ⟨fun c => ⟨(h.1 c).1, (h.1 c).2.1, (h.1 c).2.2.1, (h.1 c).2.2.2.1⟩, h.2⟩)
    (run_main (F := Ideal) m ρ)

/-- The reference: it ends with its arguments unchanged, and it declares no counter. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-- From memories that agree on the arguments the idealized kernel and the reference end with the same result: the
    reference's term of the kernel's arguments. -/
theorem values_agree : Cert.algebraic_KernelIdeal_ReferenceIdeal := fun m ρ m' ρ' _ hm =>
  ⟨fun d => outD (F := Ideal) m d,
    (θ_run (Cert.KernelIdeal.defs (F := Ideal)) _ _).mono (fun _ h c =>
      ⟨(h.1 c).2.2.2.2, (h.1 c).1, (h.1 c).2.1, (h.1 c).2.2.1, (h.1 c).2.2.2.1⟩) (run_main (F := Ideal) m ρ),
    (θ_run (Cert.ReferenceIdeal.defs (F := Ideal)) _ _).mono (fun _ h c => by
      refine ⟨(h c).1.trans ?_, (h c).2⟩
      rw [(hm c).1, (hm c).2.2.1, (hm c).2.2.2]
      exact (out_eq_ref _ _ _).symm) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, values_agree⟩

end Cert.Proof

end
